-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x4096 : Shape := ⟨3, ![48, 1, 4096]⟩
abbrev S2048x22016 : Shape := ⟨2, ![2048, 22016]⟩
abbrev S32x22016 : Shape := ⟨2, ![32, 22016]⟩
abbrev S48x4096 : Shape := ⟨2, ![48, 4096]⟩
abbrev S48x22016 : Shape := ⟨2, ![48, 22016]⟩
abbrev S2048x512 : Shape := ⟨2, ![2048, 512]⟩
abbrev S32x512 : Shape := ⟨2, ![32, 512]⟩
abbrev S48x512 : Shape := ⟨2, ![48, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩
abbrev S48x128 : Shape := ⟨2, ![48, 128]⟩
abbrev S48x1x22016 : Shape := ⟨3, ![48, 1, 22016]⟩

abbrev nBuf : Space → Nat
  | .hbm => 7
  | .vmem => 9
  | .smem => 0
  | _ => 0

abbrev bufTy : (tb : Table) → Fin (tcTables nBuf tb) → BufTy
  | .hbm, ⟨0, _⟩ => ⟨S48x1x4096, .bf16⟩
  | .hbm, ⟨1, _⟩ => ⟨S2048x22016, .i8⟩
  | .hbm, ⟨2, _⟩ => ⟨S32x22016, .bf16⟩
  | .hbm, ⟨3, _⟩ => ⟨S32x22016, .i8⟩
  | .hbm, ⟨4, _⟩ => ⟨S48x4096, .bf16⟩
  | .hbm, ⟨5, _⟩ => ⟨S48x22016, .bf16⟩
  | .hbm, ⟨6, _⟩ => ⟨S48x1x22016, .bf16⟩
  | .local _ .vmem, ⟨0, _⟩ => ⟨S48x4096, .bf16⟩
  | .local _ .vmem, ⟨1, _⟩ => ⟨S2048x512, .i8⟩
  | .local _ .vmem, ⟨2, _⟩ => ⟨S2048x512, .i8⟩
  | .local _ .vmem, ⟨3, _⟩ => ⟨S32x512, .bf16⟩
  | .local _ .vmem, ⟨4, _⟩ => ⟨S32x512, .bf16⟩
  | .local _ .vmem, ⟨5, _⟩ => ⟨S32x512, .i8⟩
  | .local _ .vmem, ⟨6, _⟩ => ⟨S32x512, .i8⟩
  | .local _ .vmem, ⟨7, _⟩ => ⟨S48x512, .bf16⟩
  | .local _ .vmem, ⟨8, _⟩ => ⟨S48x512, .bf16⟩
  | _, _ => ⟨S48x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S48x1x4096 : Shape := ⟨3, ![48, 1, 4096]⟩
abbrev S2048x22016 : Shape := ⟨2, ![2048, 22016]⟩
abbrev S32x22016 : Shape := ⟨2, ![32, 22016]⟩
abbrev S_ : Shape := ⟨0, ![]⟩
abbrev S2048x1x22016 : Shape := ⟨3, ![2048, 1, 22016]⟩
abbrev S2048x2x22016 : Shape := ⟨3, ![2048, 2, 22016]⟩
abbrev S32x128x22016 : Shape := ⟨3, ![32, 128, 22016]⟩
abbrev S32x1x22016 : Shape := ⟨3, ![32, 1, 22016]⟩
abbrev S4096x22016 : Shape := ⟨2, ![4096, 22016]⟩
abbrev S48x1x22016 : Shape := ⟨3, ![48, 1, 22016]⟩

abbrev nBuf : Space → Nat
  | .hbm => 44
  | .vmem => 0
  | .smem => 0
  | _ => 0

abbrev bufTy : (tb : Table) → Fin (tcTables nBuf tb) → BufTy
  | .hbm, ⟨0, _⟩ => ⟨S48x1x4096, .bf16⟩
  | .hbm, ⟨1, _⟩ => ⟨S2048x22016, .i8⟩
  | .hbm, ⟨2, _⟩ => ⟨S32x22016, .bf16⟩
  | .hbm, ⟨3, _⟩ => ⟨S32x22016, .i8⟩
  | .hbm, ⟨4, _⟩ => ⟨S2048x22016, .i32⟩
  | .hbm, ⟨5, _⟩ => ⟨S_, .i32⟩
  | .hbm, ⟨6, _⟩ => ⟨S2048x22016, .i32⟩
  | .hbm, ⟨7, _⟩ => ⟨S2048x22016, .i32⟩
  | .hbm, ⟨8, _⟩ => ⟨S_, .i32⟩
  | .hbm, ⟨9, _⟩ => ⟨S2048x22016, .i32⟩
  | .hbm, ⟨10, _⟩ => ⟨S2048x22016, .i32⟩
  | .hbm, ⟨11, _⟩ => ⟨S2048x1x22016, .i32⟩
  | .hbm, ⟨12, _⟩ => ⟨S2048x1x22016, .i32⟩
  | .hbm, ⟨13, _⟩ => ⟨S2048x2x22016, .i32⟩
  | .hbm, ⟨14, _⟩ => ⟨S32x128x22016, .i32⟩
  | .hbm, ⟨15, _⟩ => ⟨S32x128x22016, .bf16⟩
  | .hbm, ⟨16, _⟩ => ⟨S32x1x22016, .i8⟩
  | .hbm, ⟨17, _⟩ => ⟨S32x1x22016, .i32⟩
  | .hbm, ⟨18, _⟩ => ⟨S32x1x22016, .bf16⟩
  | .hbm, ⟨19, _⟩ => ⟨S32x128x22016, .bf16⟩
  | .hbm, ⟨20, _⟩ => ⟨S32x128x22016, .bf16⟩
  | .hbm, ⟨21, _⟩ => ⟨S32x1x22016, .bf16⟩
  | .hbm, ⟨22, _⟩ => ⟨S32x128x22016, .bf16⟩
  | .hbm, ⟨23, _⟩ => ⟨S32x128x22016, .bf16⟩
  | .hbm, ⟨24, _⟩ => ⟨S4096x22016, .bf16⟩
  | .hbm, ⟨25, _⟩ => ⟨S48x1x22016, .f32⟩
  | .hbm, ⟨26, _⟩ => ⟨S48x1x22016, .f32⟩
  | .hbm, ⟨27, _⟩ => ⟨S48x1x22016, .f32⟩
  | .hbm, ⟨28, _⟩ => ⟨S_, .f32⟩
  | .hbm, ⟨29, _⟩ => ⟨S48x1x22016, .f32⟩
  | .hbm, ⟨30, _⟩ => ⟨S48x1x22016, .f32⟩
  | .hbm, ⟨31, _⟩ => ⟨S48x1x22016, .f32⟩
  | .hbm, ⟨32, _⟩ => ⟨S_, .f32⟩
  | .hbm, ⟨33, _⟩ => ⟨S48x1x22016, .f32⟩
  | .hbm, ⟨34, _⟩ => ⟨S48x1x22016, .f32⟩
  | .hbm, ⟨35, _⟩ => ⟨S48x1x22016, .f32⟩
  | .hbm, ⟨36, _⟩ => ⟨S_, .f32⟩
  | .hbm, ⟨37, _⟩ => ⟨S48x1x22016, .f32⟩
  | .hbm, ⟨38, _⟩ => ⟨S48x1x22016, .f32⟩
  | .hbm, ⟨39, _⟩ => ⟨S_, .f32⟩
  | .hbm, ⟨40, _⟩ => ⟨S48x1x22016, .f32⟩
  | .hbm, ⟨41, _⟩ => ⟨S48x1x22016, .f32⟩
  | .hbm, ⟨42, _⟩ => ⟨S48x1x22016, .f32⟩
  | .hbm, ⟨43, _⟩ => ⟨S48x1x22016, .bf16⟩
  | _, _ => ⟨S48x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Proof.Body.lean ====
/-
  What one grid point's body leaves in the output block, as a recursion over the 32 groups, at any float instance.
  The printed body is cut into windows of statements, so its payloads do not follow the groups; `out_eq` states that they
  compose to: start at zero, add one product per group, apply gelu.
-/
module

public import proofs.«01_k».proof.Proof.Gen.KernelIdeal.Frame
public import Idealize.ShloMosaic.Lib.Pipeline.Value

@[expose] public section

noncomputable section

namespace Cert.Proof.Body

open Idealize.ShloMosaic Idealize.SL.Sem Cert.KernelIdeal Cert.KernelIdeal.Gen

variable {F : FTy → Type} [FloatOps F]

/-- The 128 rows of codes in 64 rows of packed bytes: byte row `r` holds code row `2 r` in its low four bits and code row
    `2 r + 1` in its high four bits. -/
def codes (p : Vec F S64x512 .i8) : IVec S128x512 32 :=
  shapeCast S128x512
    (concatenate S64x2x512 1
      [⟨S64x1x512, shapeCast S64x1x512 (andi (extui 32 p natLt_8_32) (broadcast S64x512 15#32)) shapeCasts_S64x512_S64x1x512⟩,
       ⟨S64x1x512, shapeCast S64x1x512 (shrsi (extui 32 p natLt_8_32) (broadcast S64x512 4#32)) shapeCasts_S64x512_S64x1x512⟩]
      concatenates_S64x1x512_S64x1x512_S64x2x512_d1)
    shapeCasts_S64x2x512_S128x512

/-- One row of a `32 × 512` table lies inside it. -/
theorem slices_row (g : Fin 32) : S32x512.Slices ![g.val, 0] S1x512 :=
  ⟨rfl, fun a => by have := g.isLt; fin_cases a <;> simp <;> omega⟩

/-- The 64 rows of packed bytes of group `g` lie inside the block. -/
theorem inb_packed (g : Fin 32) : ∀ a, (![64 * g.val, 0] : Fin 2 → Nat) a + S64x512.size a ≤ S2048x512.size a :=
  fun a => by have := g.isLt; fin_cases a <;> simp <;> omega

/-- The 128 columns of `x` of group `g` lie inside the block. -/
theorem inb_x (g : Fin 32) : ∀ a, (![0, 128 * g.val] : Fin 2 → Nat) a + S48x128.size a ≤ S48x4096.size a :=
  fun a => by have := g.isLt; fin_cases a <;> simp <;> omega

/-- The dequantised weights of group `g`: (code − zero point) × scale. -/
def weights (g : Fin 32) (zeros scales : FVec F S32x512 .bf16) (p : Vec F S64x512 .i8) : FVec F S128x512 .bf16 :=
  mulf
    (subf (sitofp .bf16 (codes p))
      (broadcastTo S128x512 (extractStridedSlice S1x512 ![g.val, 0] zeros (slices_row g)) broadcasts_S1x512_S128x512))
    (broadcastTo S128x512 (extractStridedSlice S1x512 ![g.val, 0] scales (slices_row g)) broadcasts_S1x512_S128x512)

/-- One group's step: the accumulator plus the product of the group's columns of `x` with its weights. -/
def step (x0 : Vec F S48x4096 .bf16) (x1 : Vec F S2048x512 .i8) (x2 : Vec F S32x512 .bf16) (x3 : Vec F S32x512 .i8)
    (g : Fin 32) (acc : FVec F S48x512 .f32) : FVec F S48x512 .f32 :=
  addf acc (matmul dot_S48x128_S128x512_S48x512_1_0_0_1_n_n none
    (shapeCast S48x128 (View.ld x0 (Rect.unit (s := S48x4096) ![0, 128 * g.val] S48x128.size (inb_x g))) shapeCasts_S48x128_S48x128)
    (weights g (uitofp .bf16 (View.ld x3 r0_0)) (View.ld x2 r0_0)
      (View.ld x1 (Rect.unit (s := S2048x512) ![64 * g.val, 0] S64x512.size (inb_packed g))))
    (constant S48x512 .f32 0x00000000#32))

/-- The accumulator after the first `n` groups. -/
def accs (x0 : Vec F S48x4096 .bf16) (x1 : Vec F S2048x512 .i8) (x2 : Vec F S32x512 .bf16) (x3 : Vec F S32x512 .i8) :
    (n : ℕ) → n ≤ 32 → FVec F S48x512 .f32
  | 0, _ => broadcast S48x512 (Scalar.ofBits .f32 0x00000000#32)
  | n + 1, h => step x0 x1 x2 x3 ⟨n, h⟩ (accs x0 x1 x2 x3 n (Nat.le_of_succ_le h))

/-- The tanh form of gelu as the kernel writes it, then the cast to bf16. -/
def gelu (v : FVec F S48x512 .f32) : FVec F S48x512 .bf16 :=
  truncf .bf16
    (mulf v (mulf (broadcast S48x512 (Scalar.ofBits .f32 0x3F000000#32))
      (addf (broadcast S48x512 (Scalar.ofBits .f32 0x3F800000#32))
        (tanh (mulf (broadcast S48x512 (Scalar.ofBits .f32 0x3F4C422A#32))
          (addf v (mulf (broadcast S48x512 (Scalar.ofBits .f32 0x3D372713#32)) (mulf v (mulf v v)))))))))
    bitsLt_bf16_f32

set_option maxRecDepth 16384 in
/-- The body leaves gelu of the accumulator after all 32 groups in the output block. -/
theorem out_eq (x0 : Vec F S48x4096 .bf16) (x1 : Vec F S2048x512 .i8) (x2 : Vec F S32x512 .bf16) (x3 : Vec F S32x512 .i8) :
    out0_4 x0 x1 x2 x3 = gelu (accs x0 x1 x2 x3 32 (le_refl _)) := by
  have hz : (![0, 0] : Fin S48x512.rank → Nat) = fun _ => 0 := funext fun a => by fin_cases a <;> rfl
  unfold out0_4
  rw [View.canon_unit_zero hz]
  rfl

end Cert.Proof.Body

end
-- ==== Proof.Spec.lean ====
/-
  The scalar formulas that both programs come to over the extended reals: a code taken out of a packed byte, the weight it
  stands for, and gelu in its tanh form.
-/
module

public import Idealize.ShloMosaic.Lib.Pointwise

@[expose] public section

noncomputable section

namespace Cert.Proof.Spec

open Idealize.ShloMosaic

/-- The four-bit code in half `par` of a packed byte: the low half for `par = 0`, the high half otherwise. -/
def code (b : BitVec 8) (par : ℕ) : BitVec 32 :=
  if par < 1 then IntOp.andi (BitVec.setWidth 32 b) 15#32 else IntOp.shrsi ArithUnit.vector (BitVec.setWidth 32 b) 4#32

/-- A dequantised weight: (code − zero point) × scale. -/
def weight (b : BitVec 8) (par : ℕ) (z : BitVec 8) (s : EReal) : EReal :=
  ((FloatOps.sitofp (F := Ideal) .bf16 (code b par) : EReal) - (FloatOps.uitofp (F := Ideal) .bf16 z : EReal)) * s

/-- Gelu in its tanh form: `v · ½ · (1 + tanh(√(2/π) · (v + 0.044715 · v³)))`, the constants as f32 words. -/
def gelu (v : EReal) : EReal :=
  v * (Ideal.ofBits .f32 0x3F000000#32 *
    (1 + Ideal.tanh (Ideal.ofBits .f32 0x3F4C422A#32 * (v + Ideal.ofBits .f32 0x3D372713#32 * (v * (v * v))))))

/-- The host's shift of a widened byte by four is the vector unit's. -/
theorem shrsi_host (b : BitVec 8) :
    IntOp.shrsi ArithUnit.host (BitVec.setWidth 32 b) 4#32 = IntOp.shrsi ArithUnit.vector (BitVec.setWidth 32 b) 4#32 := rfl

/-- A byte widened to a 32-bit word and read signed is the byte read unsigned. -/
theorem sitofp_widened (z : BitVec 8) :
    (FloatOps.sitofp (F := Ideal) .bf16 (BitVec.setWidth 32 z) : EReal) = FloatOps.uitofp (F := Ideal) .bf16 z := by
  have h : (BitVec.setWidth 32 z).toInt = (z.toNat : ℤ) := by
    have := z.isLt
    rw [BitVec.toInt_eq_toNat_of_lt] <;> simp [BitVec.toNat_setWidth] <;> omega
  show (((BitVec.setWidth 32 z).toInt : ℝ) : EReal) = ((z.toNat : ℝ) : EReal)
  rw [h]; rfl

end Cert.Proof.Spec

end
-- ==== Proof.BodyValue.lean ====
/-
  The body's result over the extended reals, element by element: gelu of the sum, over the 32 groups and the 128 rows of
  each, of an element of `x` times a dequantised weight.
-/
module

public import proofs.«01_k».proof.Proof.Body
public import proofs.«01_k».proof.Proof.Spec

@[expose] public section

noncomputable section

namespace Cert.Proof.Body

open Idealize.ShloMosaic Idealize.SL.Sem Cert.KernelIdeal Cert.KernelIdeal.Gen

variable (x0 : Vec Ideal S48x4096 .bf16) (x1 : Vec Ideal S2048x512 .i8) (x2 : Vec Ideal S32x512 .bf16)
  (x3 : Vec Ideal S32x512 .i8)

/-- Row `r` of group `g`: column `i` of the result's share of the product. -/
def term (i : Fin 48) (j : Fin 512) (g : Fin 32) (r : Fin 128) : EReal :=
  x0 (ix2 i ⟨128 * g.val + r.val, by omega⟩) *
    Spec.weight (x1 (ix2 ⟨64 * g.val + r.val / 2, by omega⟩ j)) (r.val % 2) (x3 (ix2 g j)) (x2 (ix2 g j))

set_option maxRecDepth 16384 in
/-- One group adds its 128 products. -/
theorem step_apply (g : Fin 32) (acc : FVec Ideal S48x512 .f32) (i : Fin 48) (j : Fin 512) :
    @Eq EReal (step x0 x1 x2 x3 g acc (ix2 i j)) ((acc (ix2 i j) : EReal) + ∑ r, term x0 x1 x2 x3 i j g r) := by
  pointwise [step, weights, codes]
  rfl

/-- The accumulator after `n` groups is the sum of their products. -/
theorem accs_apply (i : Fin 48) (j : Fin 512) (n : ℕ) (h : n ≤ 32) :
    @Eq EReal (accs x0 x1 x2 x3 n h (ix2 i j)) (∑ g : Fin n, ∑ r, term x0 x1 x2 x3 i j ⟨g.val, by omega⟩ r) := by
  induction n with
  | zero =>
    show (Ideal.ofBits .f32 0x00000000#32 : EReal) = _
    rw [Ideal.ofBits_zero_f32]; simp
  | succ n ih =>
    refine (step_apply x0 x1 x2 x3 ⟨n, h⟩ _ i j).trans ?_
    rw [ih (Nat.le_of_succ_le h)]
    exact (Fin.sum_univ_castSucc (n := n) fun g => ∑ r, term x0 x1 x2 x3 i j ⟨g.val, by omega⟩ r).symm

/-- The kernel's gelu at an element. -/
theorem gelu_apply (v : FVec Ideal S48x512 .f32) (i : Fin 48) (j : Fin 512) :
    @Eq EReal (gelu v (ix2 i j)) (Spec.gelu (v (ix2 i j))) := by
  pointwise [gelu]
  rfl

/-- An element of the output block after the body. -/
theorem out_apply (i : Fin 48) (j : Fin 512) :
    @Eq EReal (out0_4 x0 x1 x2 x3 (ix2 i j)) (Spec.gelu (∑ g : Fin 32, ∑ r, term x0 x1 x2 x3 i j g r)) := by
  rw [out_eq]
  refine (gelu_apply _ i j).trans ?_
  rw [accs_apply]

end Cert.Proof.Body

end
-- ==== Proof.RefValue.lean ====
/-
  The reference's result over the extended reals, element by element: gelu of one sum over all 4096 rows of the weight
  matrix, and that sum cut into 32 groups of 128.
-/
module

public import proofs.«01_k».proof.Proof.Gen.ReferenceIdeal.Run
public import proofs.«01_k».proof.Proof.Spec
public import Idealize.ShloMosaic.Lib.Tactic.CleanTypes

@[expose] public section

noncomputable section

namespace Cert.Proof.Ref

open Idealize.ShloMosaic Idealize.SL.Sem Cert.ReferenceIdeal

variable (x : Vec Ideal S48x1x4096 .bf16) (p : Vec Ideal S2048x22016 .i8) (s : Vec Ideal S32x22016 .bf16)
  (z : Vec Ideal S32x22016 .i8)

/-- Row `r` of group `g` of the weight matrix: its product with the matching element of `x`. -/
def term (i : Fin 48) (n : Fin 22016) (g : Fin 32) (r : Fin 128) : EReal :=
  x (ix3 i 0 ⟨128 * g.val + r.val, by omega⟩) *
    Spec.weight (p (ix2 ⟨64 * g.val + r.val / 2, by omega⟩ n)) (r.val % 2) (z (ix2 g n)) (s (ix2 g n))

/-- The result both programs compute: gelu of `x` times the dequantised weights. -/
def result (i : Fin 48) (n : Fin 22016) : EReal :=
  Spec.gelu (∑ g : Fin 32, ∑ r, term x p s z i n g r)

/-- A sum over 4096 rows is a sum over 32 groups of 128. -/
theorem sum_groups (f : Fin 4096 → EReal) :
    ∑ k, f k = ∑ g : Fin 32, ∑ r : Fin 128, f ⟨128 * g.val + r.val, by omega⟩ := by
  rw [← Fintype.sum_prod_type', ← (finProdFinEquiv (m := 32) (n := 128)).sum_comp]
  refine Finset.sum_congr rfl fun q _ => congrArg f (Fin.ext ?_)
  show q.2.val + 128 * q.1.val = 128 * q.1.val + q.2.val
  omega

set_option maxRecDepth 16384 in
/-- The reference's result at an element. -/
theorem res_apply (m : (ℓ : Loc nD τ sig) → Buf (Elt Ideal) ℓ) (c : Dev nD) (i : Fin 48) (n : Fin 22016)
    (hx : m ((c.tc : Thread nD τ).loc main_arg0) = x) (hp : m ((c.tc : Thread nD τ).loc main_arg1) = p)
    (hs : m ((c.tc : Thread nD τ).loc main_arg2) = s) (hz : m ((c.tc : Thread nD τ).loc main_arg3) = z) :
    @Eq EReal ((Value.res_main_v33 m c) (ix3 i 0 n)) (result x p s z i n) := by
  unfold Value.res_main_v33
  rw [hx, hp, hs, hz]
  clean_types
  pointwise
  rw [sum_groups]
  have h : ∀ (v w : EReal), v = w →
      v * (Ideal.ofBits .f32 0x3F000000#32 *
        (1 + Ideal.tanh (Ideal.ofBits .f32 0x3F4C422A#32 * (v + Ideal.ofBits .f32 0x3D372713#32 * ((v * v) * v))))) =
      Spec.gelu w := by
    rintro v _ rfl
    rw [mul_comm (v * v) v]
    rfl
  refine h _ _ (Finset.sum_congr rfl fun g _ => Finset.sum_congr rfl fun r _ => ?_)
  have hg := g.isLt
  have hr := r.isLt
  have e1 : (128 * g.val + r.val) / 128 = g.val := by omega
  have e2 : (128 * g.val + r.val) % 128 = r.val := by omega
  have e3 : g.val * 64 + r.val / 2 = 64 * g.val + r.val / 2 := by omega
  simp only [e1, e2, e3, Spec.sitofp_widened, Spec.shrsi_host]
  rfl

end Cert.Proof.Ref

end
-- ==== Proof.ArrayValue.lean ====
/-
  The kernel's result after the run: at every element it is the function `Ref.result` of the four arguments, first in the
  array that the region writes, then in its reshape.
-/
module

public import proofs.«01_k».proof.Proof.BodyValue
public import proofs.«01_k».proof.Proof.RefValue
public import Idealize.ShloMosaic.Lib.Pipeline.ValueKit

@[expose] public section

noncomputable section

namespace Cert.Proof.Array

open Idealize.ShloMosaic Idealize.ShloMosaic.TcCoe Idealize.SL.Sem Cert.KernelIdeal Cert.KernelIdeal.Gen

variable (m : (ℓ : Loc nD τ sig) → Buf (Elt Ideal) ℓ) (c : Dev nD)

/-- Where the five windows stand at point `t`: `x` whole, the others at column block `t`. -/
theorem idx : ∀ t : Fin cfg0.N, win0_0.index t = ![0, 0] ∧ win0_1.index t = ![0, t.val] ∧ win0_2.index t = ![0, t.val]
    ∧ win0_3.index t = ![0, t.val] ∧ win0_4.index t = ![0, t.val] :=
  (by decide +kernel : ∀ t : Fin grid0.N, _)

/-- The result array, as a function of the arguments at launch. -/
def G : Vec Ideal S48x22016 .bf16 := fun i =>
  Ref.result (m ((c.tc : Thread nD τ).loc main_arg0)) (m ((c.tc : Thread nD τ).loc main_arg1))
    (m ((c.tc : Thread nD τ).loc main_arg2)) (m ((c.tc : Thread nD τ).loc main_arg3)) (i 0) (i 1)

/-- The region finds `x` with its two outer axes made one. -/
theorem entry_x : V m c main_v0 = shapeCast S48x4096 (m ((c.tc : Thread nD τ).loc main_arg0) : Vec Ideal S48x1x4096 .bf16)
    shapeCasts_S48x1x4096_S48x4096 := by
  unfold V V0
  simp only [List.flatten_cons, List.flatten_nil, List.append_nil]
  after_results
  rfl

/-- The reshape of `x` drops its middle index. -/
theorem cast_x (x : Vec Ideal S48x1x4096 .bf16) (i : Fin 48) (k : Fin 4096) :
    @Eq EReal (shapeCast S48x4096 x shapeCasts_S48x1x4096_S48x4096 (ix2 i k)) (x (ix3 i 0 k)) := by
  pointwise

/-- Element `(i, k)` of the staged block of `x`. -/
theorem read_x (t : Fin cfg0.N) (i : Fin 48) (k : Fin 4096) :
    @Eq EReal (iblk m c 0 t (ix2 i k)) ((m ((c.tc : Thread nD τ).loc main_arg0) : Vec Ideal S48x1x4096 .bf16) (ix3 i 0 k)) := by
  have h := entry_x m c
  unfold iblk
  rw [show V m c (Pipeline.arrRef spec0 0) = _ from h]
  have e : (win0_0.blk t).view.emb (ix2 i k) = (ix2 i k : S48x4096.Idx) := by blk_ext [idx t]
  show shapeCast S48x4096 _ _ ((win0_0.blk t).view.emb (ix2 i k)) = _
  rw [e]
  exact cast_x _ i k

/-- Element `(r, j)` of point `t`'s block of packed bytes. -/
theorem read_p (t : Fin cfg0.N) (r : Fin 2048) (j : Fin 512) (n : Fin 22016) (hn : n.val = t.val * 512 + j.val) :
    @Eq (BitVec 8) (iblk m c 1 t (ix2 r j)) ((m ((c.tc : Thread nD τ).loc main_arg1) : Vec Ideal S2048x22016 .i8) (ix2 r n)) := by
  blk_ext! [iblk, V, idx t]

/-- Element `(g, j)` of point `t`'s block of scales. -/
theorem read_s (t : Fin cfg0.N) (g : Fin 32) (j : Fin 512) (n : Fin 22016) (hn : n.val = t.val * 512 + j.val) :
    @Eq EReal (iblk m c 2 t (ix2 g j)) ((m ((c.tc : Thread nD τ).loc main_arg2) : Vec Ideal S32x22016 .bf16) (ix2 g n)) := by
  blk_ext! [iblk, V, idx t]

/-- Element `(g, j)` of point `t`'s block of zero points. -/
theorem read_z (t : Fin cfg0.N) (g : Fin 32) (j : Fin 512) (n : Fin 22016) (hn : n.val = t.val * 512 + j.val) :
    @Eq (BitVec 8) (iblk m c 3 t (ix2 g j)) ((m ((c.tc : Thread nD τ).loc main_arg3) : Vec Ideal S32x22016 .i8) (ix2 g n)) := by
  blk_ext! [iblk, V, idx t]

set_option maxRecDepth 16384 in
/-- The result array after the run is `G`. -/
theorem final : (dats m 0 c).arrAt 4 cfg0.N = G m c := by
  refine (dats m 0 c).arrAt_eq_of_covers 4 _ (by decide +kernel) fun t hf y => ?_
  blk_simp
  rw [after0_4]
  idx_vars y
  have ht : t.val < 43 := t.isLt
  have e : ((View.whole main_v1).slice (win0_4.rect t)).emb (ix2 y0 y1) = (ix2 y0 ⟨t.val * 512 + y1.val, by omega⟩ : S48x22016.Idx) := by
    blk_ext [idx t]
  rw [e]
  refine (Body.out_apply _ _ _ _ y0 y1).trans (congrArg Spec.gelu ?_)
  refine Finset.sum_congr rfl fun g _ => Finset.sum_congr rfl fun r _ => ?_
  unfold Body.term Ref.term
  rw [read_x, read_p m c t _ y1 ⟨t.val * 512 + y1.val, by omega⟩ rfl, read_s m c t _ y1 ⟨t.val * 512 + y1.val, by omega⟩ rfl,
    read_z m c t _ y1 ⟨t.val * 512 + y1.val, by omega⟩ rfl]
  rfl

/-- The program's result: `G` with an axis of length one put between its two. -/
def result : Vec Ideal S48x1x22016 .bf16 := fun i => G m c (ix2 (i 0) (i 2))

/-- The reshape after the region leaves `result`. -/
theorem tail : Pipeline.afterTail₀ cfgs (dats m) 0 (V0 m) [hostOps1] c main_v2 = result m c := by
  unfold Pipeline.afterTail₀
  simp only [List.flatten_cons, List.flatten_nil, List.append_nil]
  after_results
  have h := (Pipeline.withArrays_arr spec0 launch0.win.arr_inj c (V0 m c) (fun w => (dats m 0 c).arrAt w cfg0.N) 4).trans (final m c)
  erw [h]
  funext i
  idx_vars i
  unfold result
  pointwise

/-- From any memory with zero counters the ideal program ends with its result at `result` and its arguments unchanged. -/
theorem run (g : Dev nD → PrngReg) :
    θ_run defs (onTc (τ := τ) (main (F := Ideal))) ⟨m, fun _ => 0, g⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (θ_run_and (run_main m g) (unchanged m g)) fun r h c =>
    ⟨((h.1 c).2 main_v2 (by decide +kernel)).trans (tail m c), h.2 c⟩

end Cert.Proof.Array

end
-- ==== Proof.lean ====
/-
  The proof of `Cert.Claim`: the three programs run to the end, leave their arguments unchanged and every counter at
  zero; and over the extended reals the kernel's result is the reference's.
-/
module

public import proofs.«01_k».proof.Defs
public import proofs.«01_k».proof.Proof.ArrayValue
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs to the end, its arguments unchanged and every semaphore counter at zero. -/
theorem frame_kernel : Cert.quiescent_Kernel := fun m ρ _ => Cert.Kernel.Gen.frame m ρ

/-- The idealized kernel runs to the end, its arguments unchanged and every semaphore counter at zero. -/
theorem frame_ideal : Cert.quiescent_KernelIdeal := fun m ρ _ => Cert.KernelIdeal.Gen.frame m ρ

/-- The reference runs to the end, its arguments unchanged; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The two programs, run from equal arguments, end with the same result at every element, for every argument: the
    common value is `Array.result`, the gelu of the sum over the 4096 inputs of input times dequantized weight. -/
theorem algebraic : Cert.algebraic_KernelIdeal_ReferenceIdeal := by
  intro m g m' g' _ hargs
  refine ⟨fun c => Array.result m c, Array.run m g, ?_⟩
  refine (θ_run Cert.ReferenceIdeal.defs _ _).mono
    (fun r h c => ⟨(h c).1.trans ?_, (h c).2⟩) (Cert.ReferenceIdeal.Value.run m' g')
  funext i
  idx_vars i
  obtain rfl : i1 = 0 := Subsingleton.elim _ _
  obtain ⟨h0, h1, h2, h3⟩ := hargs c
  exact Ref.res_apply _ _ _ _ m' c i0 i2 h0 h1 h2 h3

/-- All five claims together. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
